-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e_scale" .f32 0x3E38AA3B#32 (((8 * (Real.log 2))⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S4x2048x768 : Shape := ⟨3, ![4, 2048, 768]⟩
abbrev S12x768x64 : Shape := ⟨3, ![12, 768, 64]⟩
abbrev S12x64 : Shape := ⟨2, ![12, 64]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  bcast_S_S12x768x64 : S_.BroadcastsInDim S12x768x64 (![] : Fin 0 → Fin S12x768x64.rank)
  bcast_S_S12x64 : S_.BroadcastsInDim S12x64 (![] : Fin 0 → Fin S12x64.rank)

variable [Facts]

def fn {F : FTy → Type} [FloatOps F] (main_arg0 : FVec F S4x2048x768 .f32) (main_arg1 : FVec F S12x768x64 .f32) (main_arg2 : FVec F S12x64 .f32) (main_arg3 : FVec F S12x768x64 .f32) (main_arg4 : FVec F S12x64 .f32) (main_arg5 : FVec F S12x768x64 .f32) (main_arg6 : FVec F S12x64 .f32) (main_arg7 : FVec F S768x768 .f32) (main_arg8 : FVec F S768 .f32) : IVec S4x2048x768 1 × IVec S12x768x64 1 × IVec S12x64 1 × IVec S12x768x64 1 × IVec S12x64 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_v3 : FVec F S12x768x64 .f32 := Host.absf main_arg1
  let main_cst_0 : FVec F S_ .f32 := constant S_ .f32 0x7F800000#32
  let main_v4 : FVec F S12x768x64 .f32 := broadcastInDim S12x768x64 ![] bcast_S_S12x768x64 main_cst_0
  let main_v5 : IVec S12x768x64 1 := cmpf .olt main_v3 main_v4
  let main_v6 : FVec F S12x64 .f32 := Host.absf main_arg2
  let main_cst_1 : FVec F S_ .f32 := constant S_ .f32 0x7F800000#32
  let main_v7 : FVec F S12x64 .f32 := broadcastInDim S12x64 ![] bcast_S_S12x64 main_cst_1
  let main_v8 : IVec S12x64 1 := cmpf .olt main_v6 main_v7
  let main_v9 : FVec F S12x768x64 .f32 := Host.absf main_arg3
  let main_cst_2 : FVec F S_ .f32 := constant S_ .f32 0x7F800000#32
  let main_v10 : FVec F S12x768x64 .f32 := broadcastInDim S12x768x64 ![] bcast_S_S12x768x64 main_cst_2
  let main_v11 : IVec S12x768x64 1 := cmpf .olt main_v9 main_v10
  let main_v12 : FVec F S12x64 .f32 := Host.absf main_arg4
  let main_cst_3 : FVec F S_ .f32 := constant S_ .f32 0x7F800000#32
  let main_v13 : FVec F S12x64 .f32 := broadcastInDim S12x64 ![] bcast_S_S12x64 main_cst_3
  let main_v14 : IVec S12x64 1 := cmpf .olt main_v12 main_v13
  (main_v2, main_v5, main_v8, main_v11, main_v14)
-- ==== Kernel.lean ====
abbrev S4x2048x768 : Shape := ⟨3, ![4, 2048, 768]⟩
abbrev S12x768x64 : Shape := ⟨3, ![12, 768, 64]⟩
abbrev S12x64 : Shape := ⟨2, ![12, 64]⟩
abbrev S768x768 : Shape := ⟨2, ![768, 768]⟩
abbrev S768 : Shape := ⟨1, ![768]⟩
abbrev S3x4x768x64 : Shape := ⟨4, ![3, 4, 768, 64]⟩
abbrev S3x768x4x64 : Shape := ⟨4, ![3, 768, 4, 64]⟩
abbrev S3x768x256 : Shape := ⟨3, ![3, 768, 256]⟩
abbrev S3x768x768 : Shape := ⟨3, ![3, 768, 768]⟩
abbrev S3x1x256 : Shape := ⟨3, ![3, 1, 256]⟩
abbrev S3x1x768 : Shape := ⟨3, ![3, 1, 768]⟩
abbrev S3x256x768 : Shape := ⟨3, ![3, 256, 768]⟩
abbrev S1x768 : Shape := ⟨2, ![1, 768]⟩
abbrev S1x2048x768 : Shape := ⟨3, ![1, 2048, 768]⟩
abbrev S1x768x768 : Shape := ⟨3, ![1, 768, 768]⟩
abbrev S1x1x768 : Shape := ⟨3, ![1, 1, 768]⟩
abbrev S1x256x768 : Shape := ⟨3, ![1, 256, 768]⟩
abbrev S2048x256 : Shape := ⟨2, ![2048, 256]⟩
abbrev S2048x768 : Shape := ⟨2, ![2048, 768]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S256x768 : Shape := ⟨2, ![256, 768]⟩
abbrev S512x256 : Shape := ⟨2, ![512, 256]⟩
abbrev S512x768 : Shape := ⟨2, ![512, 768]⟩
abbrev S1x512x768 : Shape := ⟨3, ![1, 512, 768]⟩

abbrev nBuf : Space → Nat
  | .hbm => 29
  | .vmem => 12
  | .smem => 0
  | _ => 0

abbrev bufTy : (tb : Table) → Fin (tcTables nBuf tb) → BufTy
  | .hbm, ⟨0, _⟩ => ⟨S4x2048x768, .f32⟩
  | .hbm, ⟨1, _⟩ => ⟨S12x768x64, .f32⟩
  | .hbm, ⟨2, _⟩ => ⟨S12x64, .f32⟩
  | .hbm, ⟨3, _⟩ => ⟨S12x768x64, .f32⟩
  | .hbm, ⟨4, _⟩ => ⟨S12x64, .f32⟩
  | .hbm, ⟨5, _⟩ => ⟨S12x768x64, .f32⟩
  | .hbm, ⟨6, _⟩ => ⟨S12x64, .f32⟩
  | .hbm, ⟨7, _⟩ => ⟨S768x768, .f32⟩
  | .hbm, ⟨8, _⟩ => ⟨S768, .f32⟩
  | .hbm, ⟨9, _⟩ => ⟨S3x4x768x64, .f32⟩
  | .hbm, ⟨10, _⟩ => ⟨S3x768x4x64, .f32⟩
  | .hbm, ⟨11, _⟩ => ⟨S3x768x256, .f32⟩
  | .hbm, ⟨12, _⟩ => ⟨S3x4x768x64, .f32⟩
  | .hbm, ⟨13, _⟩ => ⟨S3x768x4x64, .f32⟩
  | .hbm, ⟨14, _⟩ => ⟨S3x768x256, .f32⟩
  | .hbm, ⟨15, _⟩ => ⟨S3x4x768x64, .f32⟩
  | .hbm, ⟨16, _⟩ => ⟨S3x768x4x64, .f32⟩
  | .hbm, ⟨17, _⟩ => ⟨S3x768x256, .f32⟩
  | .hbm, ⟨18, _⟩ => ⟨S3x768x768, .f32⟩
  | .hbm, ⟨19, _⟩ => ⟨S3x768x768, .bf16⟩
  | .hbm, ⟨20, _⟩ => ⟨S3x1x256, .f32⟩
  | .hbm, ⟨21, _⟩ => ⟨S3x1x256, .f32⟩
  | .hbm, ⟨22, _⟩ => ⟨S3x1x256, .f32⟩
  | .hbm, ⟨23, _⟩ => ⟨S3x1x768, .f32⟩
  | .hbm, ⟨24, _⟩ => ⟨S3x256x768, .f32⟩
  | .hbm, ⟨25, _⟩ => ⟨S3x256x768, .bf16⟩
  | .hbm, ⟨26, _⟩ => ⟨S1x768, .f32⟩
  | .hbm, ⟨27, _⟩ => ⟨S4x2048x768, .bf16⟩
  | .hbm, ⟨28, _⟩ => ⟨S4x2048x768, .f32⟩
  | .local _ .vmem, ⟨0, _⟩ => ⟨S1x2048x768, .bf16⟩
  | .local _ .vmem, ⟨1, _⟩ => ⟨S1x2048x768, .bf16⟩
  | .local _ .vmem, ⟨2, _⟩ => ⟨S1x768x768, .bf16⟩
  | .local _ .vmem, ⟨3, _⟩ => ⟨S1x768x768, .bf16⟩
  | .local _ .vmem, ⟨4, _⟩ => ⟨S1x1x768, .f32⟩
  | .local _ .vmem, ⟨5, _⟩ => ⟨S1x1x768, .f32⟩
  | .local _ .vmem, ⟨6, _⟩ => ⟨S1x256x768, .bf16⟩
  | .local _ .vmem, ⟨7, _⟩ => ⟨S1x256x768, .bf16⟩
  | .local _ .vmem, ⟨8, _⟩ => ⟨S1x768, .f32⟩
  | .local _ .vmem, ⟨9, _⟩ => ⟨S1x2048x768, .f32⟩
  | .local _ .vmem, ⟨10, _⟩ => ⟨S1x2048x768, .f32⟩
  | .local _ .vmem, ⟨11, _⟩ => ⟨S2048x256, .bf16⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v297 : BitVec 1 := Scalar.cmpi .eq arg1 c0_i32
  let v298 : BitVec 32 := Scalar.extui v297
  let c0_i32_108 : BitVec 32 := 0#32
  let v299 : BitVec 1 := Scalar.cmpi .ne v298 c0_i32_108
  v299

def k0_cond2 (i : grid0.Coords) : BitVec 1 :=
  let arg1 : BitVec 32 := BitVec.ofNat 32 (i 1).val
  let c0_i32_109 : BitVec 32 := 0#32
  let v300 : BitVec 1 := Scalar.cmpi .ne arg1 c0_i32_109
  let v301 : BitVec 32 := Scalar.extui v300
  let c0_i32_110 : BitVec 32 := 0#32
  let v302 : BitVec 1 := Scalar.cmpi .ne v301 c0_i32_110
  v302

def k0_cond3 (i : grid0.Coords) : BitVec 1 :=
  let arg1 : BitVec 32 := BitVec.ofNat 32 (i 1).val
  let c0_i32_114 : BitVec 32 := 0#32
  let v305 : BitVec 1 := Scalar.cmpi .eq arg1 c0_i32_114
  let v306 : BitVec 32 := Scalar.extui v305
  let c0_i32_115 : BitVec 32 := 0#32
  let v307 : BitVec 1 := Scalar.cmpi .ne v306 c0_i32_115
  v307

def k0_cond4 (i : grid0.Coords) : BitVec 1 :=
  let arg1 : BitVec 32 := BitVec.ofNat 32 (i 1).val
  let c0_i32_116 : BitVec 32 := 0#32
  let v308 : BitVec 1 := Scalar.cmpi .ne arg1 c0_i32_116
  let v309 : BitVec 32 := Scalar.extui v308
  let c0_i32_117 : BitVec 32 := 0#32
  let v310 : BitVec 1 := Scalar.cmpi .ne v309 c0_i32_117
  v310

def k0_cond5 (i : grid0.Coords) : BitVec 1 :=
  let arg1 : BitVec 32 := BitVec.ofNat 32 (i 1).val
  let c0_i32_121 : BitVec 32 := 0#32
  let v313 : BitVec 1 := Scalar.cmpi .eq arg1 c0_i32_121
  let v314 : BitVec 32 := Scalar.extui v313
  let c0_i32_122 : BitVec 32 := 0#32
  let v315 : BitVec 1 := Scalar.cmpi .ne v314 c0_i32_122
  v315

def k0_cond6 (i : grid0.Coords) : BitVec 1 :=
  let arg1 : BitVec 32 := BitVec.ofNat 32 (i 1).val
  let c0_i32_123 : BitVec 32 := 0#32
  let v316 : BitVec 1 := Scalar.cmpi .ne arg1 c0_i32_123
  let v317 : BitVec 32 := Scalar.extui v316
  let c0_i32_124 : BitVec 32 := 0#32
  let v318 : BitVec 1 := Scalar.cmpi .ne v317 c0_i32_124
  v318

def k0_cond7 (i : grid0.Coords) : BitVec 1 :=
  let arg1 : BitVec 32 := BitVec.ofNat 32 (i 1).val
  let c0_i32_128 : BitVec 32 := 0#32
  let v321 : BitVec 1 := Scalar.cmpi .eq arg1 c0_i32_128
  let v322 : BitVec 32 := Scalar.extui v321
  let c0_i32_129 : BitVec 32 := 0#32
  let v323 : BitVec 1 := Scalar.cmpi .ne v322 c0_i32_129
  v323

def k0_cond8 (i : grid0.Coords) : BitVec 1 :=
  let arg1 : BitVec 32 := BitVec.ofNat 32 (i 1).val
  let c0_i32_130 : BitVec 32 := 0#32
  let v324 : BitVec 1 := Scalar.cmpi .ne arg1 c0_i32_130
  let v325 : BitVec 32 := Scalar.extui v324
  let c0_i32_131 : BitVec 32 := 0#32
  let v326 : BitVec 1 := Scalar.cmpi .ne v325 c0_i32_131
  v326

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "log2e_scale" => some (((8 * (Real.log 2))⁻¹ : ℝ) : EReal)
  | _ => none
-- ==== ReferenceIdeal.lean ====
abbrev S4x2048x768 : Shape := ⟨3, ![4, 2048, 768]⟩
abbrev S12x768x64 : Shape := ⟨3, ![12, 768, 64]⟩
abbrev S12x64 : Shape := ⟨2, ![12, 64]⟩
abbrev S768x768 : Shape := ⟨2, ![768, 768]⟩
abbrev S768 : Shape := ⟨1, ![768]⟩
abbrev S12x64x4x2048 : Shape := ⟨4, ![12, 64, 4, 2048]⟩
abbrev S4x12x2048x64 : Shape := ⟨4, ![4, 12, 2048, 64]⟩
abbrev S1x12x1x64 : Shape := ⟨4, ![1, 12, 1, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S1x1x768 : Shape := ⟨3, ![1, 1, 768]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S12x768x64, .f32⟩
  | .hbm, ⟨2, _⟩ => ⟨S12x64, .f32⟩
  | .hbm, ⟨3, _⟩ => ⟨S12x768x64, .f32⟩
  | .hbm, ⟨4, _⟩ => ⟨S12x64, .f32⟩
  | .hbm, ⟨5, _⟩ => ⟨S12x768x64, .f32⟩
  | .hbm, ⟨6, _⟩ => ⟨S12x64, .f32⟩
  | .hbm, ⟨7, _⟩ => ⟨S768x768, .f32⟩
  | .hbm, ⟨8, _⟩ => ⟨S768, .f32⟩
  | .hbm, ⟨9, _⟩ => ⟨S12x64x4x2048, .f32⟩
  | .hbm, ⟨10, _⟩ => ⟨S4x12x2048x64, .f32⟩
  | .hbm, ⟨11, _⟩ => ⟨S1x12x1x64, .f32⟩
  | .hbm, ⟨12, _⟩ => ⟨S4x12x2048x64, .f32⟩
  | .hbm, ⟨13, _⟩ => ⟨S4x12x2048x64, .f32⟩
  | .hbm, ⟨14, _⟩ => ⟨S12x64x4x2048, .f32⟩
  | .hbm, ⟨15, _⟩ => ⟨S4x12x2048x64, .f32⟩
  | .hbm, ⟨16, _⟩ => ⟨S1x12x1x64, .f32⟩
  | .hbm, ⟨17, _⟩ => ⟨S4x12x2048x64, .f32⟩
  | .hbm, ⟨18, _⟩ => ⟨S4x12x2048x64, .f32⟩
  | .hbm, ⟨19, _⟩ => ⟨S12x64x4x2048, .f32⟩
  | .hbm, ⟨20, _⟩ => ⟨S4x12x2048x64, .f32⟩
  | .hbm, ⟨21, _⟩ => ⟨S1x12x1x64, .f32⟩
  | .hbm, ⟨22, _⟩ => ⟨S4x12x2048x64, .f32⟩
  | .hbm, ⟨23, _⟩ => ⟨S4x12x2048x64, .f32⟩
  | .hbm, ⟨24, _⟩ => ⟨S4x12x2048x2048, .f32⟩
  | .hbm, ⟨25, _⟩ => ⟨S_, .f32⟩
  | .hbm, ⟨26, _⟩ => ⟨S_, .f32⟩
  | .hbm, ⟨27, _⟩ => ⟨S4x12x2048x2048, .f32⟩
  | .hbm, ⟨28, _⟩ => ⟨S4x12x2048x2048, .f32⟩
  | .hbm, ⟨29, _⟩ => ⟨S_, .f32⟩
  | .hbm, ⟨30, _⟩ => ⟨S4x12x2048, .f32⟩
  | .hbm, ⟨31, _⟩ => ⟨S_, .f32⟩
  | .hbm, ⟨32, _⟩ => ⟨S4x12x2048, .f32⟩
  | .hbm, ⟨33, _⟩ => ⟨S4x12x2048, .f32⟩
  | .hbm, ⟨34, _⟩ => ⟨S4x12x2048x1, .f32⟩
  | .hbm, ⟨35, _⟩ => ⟨S4x12x2048x2048, .f32⟩
  | .hbm, ⟨36, _⟩ => ⟨S4x12x2048x2048, .f32⟩
  | .hbm, ⟨37, _⟩ => ⟨S4x12x2048x2048, .f32⟩
  | .hbm, ⟨38, _⟩ => ⟨S_, .f32⟩
  | .hbm, ⟨39, _⟩ => ⟨S4x12x2048, .f32⟩
  | .hbm, ⟨40, _⟩ => ⟨S4x12x2048x1, .f32⟩
  | .hbm, ⟨41, _⟩ => ⟨S4x12x2048x2048, .f32⟩
  | .hbm, ⟨42, _⟩ => ⟨S4x12x2048x2048, .f32⟩
  | .hbm, ⟨43, _⟩ => ⟨S4x12x2048x64, .f32⟩
  | .hbm, ⟨44, _⟩ => ⟨S4x2048x12x64, .f32⟩
  | .hbm, ⟨45, _⟩ => ⟨S4x2048x768, .f32⟩
  | .hbm, ⟨46, _⟩ => ⟨S4x2048x768, .f32⟩
  | .hbm, ⟨47, _⟩ => ⟨S1x1x768, .f32⟩
  | .hbm, ⟨48, _⟩ => ⟨S4x2048x768, .f32⟩
  | .hbm, ⟨49, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Softmax.lean ====
/- One row of attention on extended reals: the kernel exponentiates in base two and divides the weighted sum once; the
   reference exponentiates in base e and divides every weight. The two agree as soon as the scores are real numbers,
   whatever the values that are averaged. -/
module

public import Idealize.ShloMosaic.PureOps.Ideal
public import Mathlib.Analysis.SpecialFunctions.Pow.Real

@[expose] public section

noncomputable section

namespace Cert.Attn

open Idealize.ShloMosaic

/-- The largest entry of a row, −∞ for an empty row. -/
def rowMax {n : ℕ} (s : Fin n → EReal) : EReal := Finset.univ.fold max ⊥ s

/-- The kernel's row: powers of two of the shifted scores weight the values, one division at the end. -/
def fusedRow {n : ℕ} (s v : Fin n → EReal) : EReal :=
  Ideal.div (∑ m, Ideal.exp2 (s m - rowMax s) * v m) (∑ m, Ideal.exp2 (s m - rowMax s))

/-- The reference's row: every weight is an exponential divided by the sum of the exponentials. -/
def softmaxRow {n : ℕ} (s v : Fin n → EReal) : EReal :=
  ∑ m, Ideal.div (Ideal.exp (s m - rowMax s)) (∑ p, Ideal.exp (s p - rowMax s)) * v m

/-- A row's largest entry is the entry that no other exceeds. -/
theorem rowMax_eq {n : ℕ} (s : Fin n → EReal) (m₀ : Fin n) (h : ∀ m, s m ≤ s m₀) : rowMax s = s m₀ :=
  le_antisymm (Finset.fold_max_le _ |>.mpr ⟨bot_le, fun m _ => h m⟩)
    (Finset.le_fold_max _ |>.mpr (Or.inr ⟨m₀, Finset.mem_univ _, le_rfl⟩))

/-- A sum of extended reals times a nonnegative real is the sum of the products. -/
theorem sum_mul_real {ι : Type} (S : Finset ι) (a : ι → EReal) (r : ℝ) (hr : 0 ≤ r) :
    (∑ i ∈ S, a i) * (r : EReal) = ∑ i ∈ S, a i * (r : EReal) := by
  classical
  induction S using Finset.induction_on with
  | empty => simp
  | insert i S hi ih =>
    rw [Finset.sum_insert hi, Finset.sum_insert hi, ← ih]
    exact EReal.right_distrib_of_nonneg_of_ne_top (EReal.coe_nonneg.mpr hr) (EReal.coe_ne_top r) _ _

/-- A sum of reals, read as an extended real, is the sum of the summands so read. -/
theorem coe_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- Two to the power `t / ln 2` is the exponential of `t`. -/
theorem two_rpow_div_log (t : ℝ) : Real.rpow 2 (t * (Real.log 2)⁻¹) = Real.exp t := by
  have h : Real.log 2 ≠ 0 := (Real.log_pos one_lt_two).ne'
  show (2 : ℝ) ^ (t * (Real.log 2)⁻¹) = Real.exp t
  rw [Real.rpow_def_of_pos two_pos]
  congr 1
  field_simp

/-- On real scores the kernel's row in base two, its scores divided by ln 2, is the reference's row in base e. -/
theorem fusedRow_eq_softmaxRow {n : ℕ} (hn : 0 < n) (r : Fin n → ℝ) (v : Fin n → EReal) :
    fusedRow (fun m => ((r m * (Real.log 2)⁻¹ : ℝ) : EReal)) v = softmaxRow (fun m => (r m : EReal)) v := by
  haveI : Nonempty (Fin n) := ⟨⟨0, hn⟩⟩
  obtain ⟨m₀, h₀⟩ := Finite.exists_max r
  have hc : (0 : ℝ) ≤ (Real.log 2)⁻¹ := inv_nonneg.mpr (Real.log_pos one_lt_two).le
  unfold fusedRow softmaxRow
  rw [rowMax_eq _ m₀ fun m => EReal.coe_le_coe_iff.mpr (mul_le_mul_of_nonneg_right (h₀ m) hc),
    rowMax_eq _ m₀ fun m => EReal.coe_le_coe_iff.mpr (h₀ m)]
  have e2 : ∀ m, Ideal.exp2 (((r m * (Real.log 2)⁻¹ : ℝ) : EReal) - ((r m₀ * (Real.log 2)⁻¹ : ℝ) : EReal))
      = ((Real.exp (r m - r m₀) : ℝ) : EReal) := fun m => by
    rw [← EReal.coe_sub, ← sub_mul, Ideal.exp2_coe, two_rpow_div_log]
  have e1 : ∀ m, Ideal.exp ((r m : EReal) - (r m₀ : EReal)) = ((Real.exp (r m - r m₀) : ℝ) : EReal) := fun m => by
    rw [← EReal.coe_sub, Ideal.exp_coe]
  have hL : 0 < ∑ m, Real.exp (r m - r m₀) :=
    Finset.sum_pos (fun m _ => Real.exp_pos _) Finset.univ_nonempty
  simp only [e1, e2, ← coe_sum]
  rw [Ideal.div_coe hL.ne', sum_mul_real _ _ _ (one_div_pos.mpr hL).le]
  refine Finset.sum_congr rfl fun m _ => ?_
  rw [Ideal.div_coe hL.ne', mul_assoc, mul_assoc, mul_comm (v m)]

end Cert.Attn

end
-- ==== Proof.Block.lean ====
/- What one head does to one run of 512 queries, as the kernel's vector operations, and its value at an element. -/
module

public import proofs.«01_k».proof.Proof.Softmax
public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Attn

open Cert.KernelIdeal Cert.KernelIdeal.Gen Idealize.ShloMosaic

/-- The scores of a run of queries against all keys. -/
def blockScores (q : FVec Ideal S512x64 .bf16) (k : FVec Ideal S2048x64 .bf16) : FVec Ideal S512x2048 .f32 :=
  matmul dot_S512x64_S2048x64_S512x2048_1_1_0_0_n_n none q k (constant S512x2048 .f32 0x00000000#32)

/-- Two to the power of the scores less their row's largest. -/
def blockWeights (s : FVec Ideal S512x2048 .f32) : FVec Ideal S512x2048 .f32 :=
  exp2 (subf s (broadcastTo S512x2048
    (shapeCast S512x1 (multiReduction .maximumf [1] S512 s 0xFF800000#32 reduces_S512x2048_S512 (.inl rfl) rfl)
      shapeCasts_S512_S512x1) broadcasts_S512x1_S512x2048))

/-- The values averaged with the weights. -/
def blockMean (e : FVec Ideal S512x2048 .f32) (v : FVec Ideal S2048x64 .f32) : FVec Ideal S512x64 .bf16 :=
  shapeCast S512x64 (truncf .bf16 (divf
    (matmul dot_S512x2048_S2048x64_S512x64_1_0_0_1_n_n none e v (constant S512x64 .f32 0x00000000#32))
    (broadcastTo S512x64
      (shapeCast S512x1 (multiReduction .add [1] S512 e 0x00000000#32 reduces_S512x2048_S512 (.inl rfl) rfl)
        shapeCasts_S512_S512x1) broadcasts_S512x1_S512x64)) bitsLt_bf16_f32) shapeCasts_S512x64_S512x64

/-- One head's context for a run of queries. -/
def attnBlock (q : FVec Ideal S512x64 .bf16) (k : FVec Ideal S2048x64 .bf16) (v : FVec Ideal S2048x64 .f32) :
    FVec Ideal S512x64 .bf16 :=
  blockMean (blockWeights (blockScores q k)) v

/-- The pattern that starts a maximum denotes −∞. -/
theorem ofBits_negInf : Ideal.ofBits .f32 0xFF800000#32 = (⊥ : EReal) := by
  simp [Ideal.ofBits, Ideal.ieee]

/-- The word of positive infinity is the top of the extended reals. -/
theorem ofBits_posInf : Ideal.ofBits .f32 0x7F800000#32 = (⊤ : EReal) := by
  simp [Ideal.ofBits, Ideal.ieee]

/-- The root of the head's width, 64, is 8. -/
theorem sqrt_width : Ideal.sqrt (Ideal.ofBits .f32 0x42800000#32) = ((8 : ℝ) : EReal) := by
  have h : Ideal.ofBits .f32 0x42800000#32 = ((64 : ℝ) : EReal) := by
    simp [Ideal.ofBits, Ideal.ieee]
    rw [← EReal.coe_mul]
    norm_num
  rw [h, Ideal.sqrt_coe, if_neg (by norm_num)]
  rw [show (64 : ℝ) = 8 ^ 2 by norm_num, Real.sqrt_sq (by norm_num)]

/-- A score is the dot product of a query row and a key row. -/
theorem blockScores_apply (q : FVec Ideal S512x64 .bf16) (k : FVec Ideal S2048x64 .bf16) (i : Fin 512) (m : Fin 2048) :
    blockScores q k (ix2 i m) = ∑ d : Fin 64, q (ix2 i d) * k (ix2 m d) := by
  pointwise [blockScores]

/-- A weight is two to the power of the score less the row's largest. -/
theorem blockWeights_apply (s : FVec Ideal S512x2048 .f32) (i : Fin 512) (m : Fin 2048) :
    blockWeights s (ix2 i m) = Ideal.exp2 (s (ix2 i m) - rowMax fun p : Fin 2048 => s (ix2 i p)) := by
  pointwise [blockWeights]
  rw [ofBits_negInf]
  rfl

/-- A mean is the weighted sum divided by the sum of the weights. -/
theorem blockMean_apply (e : FVec Ideal S512x2048 .f32) (v : FVec Ideal S2048x64 .f32) (i : Fin 512) (j : Fin 64) :
    blockMean e v (ix2 i j) = Ideal.div (∑ m : Fin 2048, e (ix2 i m) * v (ix2 m j)) (∑ m : Fin 2048, e (ix2 i m)) := by
  pointwise [blockMean]

end Cert.Attn

end
-- ==== Proof.Scratch.lean ====
/- The context scratch of one grid point: sixteen stored pieces, all of them parts of one function of the projected block. -/
module

public import proofs.«01_k».proof.Proof.Block

@[expose] public section

set_option maxRecDepth 16384

noncomputable section

namespace Cert.Attn

open Cert.KernelIdeal Cert.KernelIdeal.Gen Idealize.ShloMosaic

/-- The named constant the queries are scaled by. -/
def qScale : EReal := Named.named (F := Ideal) (φ := .f32) κ "log2e_scale" 0x3E38AA3B#32

/-- The context of a group of four heads at query `n` and lane `j` (head `j / 64` of the group, its lane `j % 64`), from the
    projected block `Z`: queries in columns 0 to 255, keys in 256 to 511, values in 512 to 767. -/
def groupCtx (Z : FVec Ideal S2048x768 .f32) (n : Fin 2048) (j : Fin 256) : EReal :=
  fusedRow (fun m : Fin 2048 => ∑ d : Fin 64,
      (Z (ix2 n ⟨j.val / 64 * 64 + d.val, by omega⟩) * qScale) * Z (ix2 m ⟨256 + (j.val / 64 * 64 + d.val), by omega⟩))
    (fun m : Fin 2048 => Z (ix2 m ⟨512 + j.val, by omega⟩))

/-- A head's block on queries, keys and values cut out of the projected block is the group's context there: `a` is the
    head's first lane, `b` and `c` where its keys and values start, `r` the run's first query. -/
theorem attnBlock_cut (Z : FVec Ideal S2048x768 .f32) (r a b c : ℕ)
    (hr : S2048x64.Slices ![r, 0] S512x64) (ha : S2048x768.Slices ![0, a] S2048x64)
    (hb : S2048x768.Slices ![0, b] S2048x64) (hc : S2048x768.Slices ![0, c] S2048x64)
    (i : Fin 512) (j : Fin 64) (n : Fin 2048) (l : Fin 256) (hn : n.val = r + i.val) (hl : l.val = a + j.val)
    (h64 : a % 64 = 0) (eb : b = 256 + a) (ec : c = 512 + a) :
    attnBlock (extractStridedSlice S512x64 ![r, 0] (truncf .bf16
        (mulf (extractStridedSlice S2048x64 ![0, a] Z ha) (broadcast S2048x64 qScale)) bitsLt_bf16_f32) hr)
      (truncf .bf16 (extractStridedSlice S2048x64 ![0, b] Z hb) bitsLt_bf16_f32)
      (extractStridedSlice S2048x64 ![0, c] Z hc) (ix2 i j)
      = groupCtx Z n l := by
  have h1 : (a + j.val) / 64 * 64 = a := by omega
  subst eb ec
  unfold attnBlock
  rw [blockMean_apply]
  simp only [blockWeights_apply, blockScores_apply]
  pointwise
  unfold groupCtx
  simp only [hl, h1, ← hn, Fin.eta, Nat.add_assoc]
  rfl

/-- The context of a group, as the contents of the scratch. -/
def ctxOf (Z : FVec Ideal S2048x768 .f32) : S2048x256.Idx → Elt Ideal .bf16 := fun y => groupCtx Z (y 0) (y 1)

/-- A run of 512 query rows lies inside the 2048. -/
theorem slices_rows (r : ℕ) (hr : r + 512 ≤ 2048) : S2048x64.Slices ![r, 0] S512x64 :=
  ⟨rfl, fun x => by fin_cases x <;> simp <;> omega⟩

/-- Sixty-four columns from `a` lie inside the projected block. -/
theorem slices_cols (a : ℕ) (ha : a + 64 ≤ 768) : S2048x768.Slices ![0, a] S2048x64 :=
  ⟨rfl, fun x => by fin_cases x <;> simp <;> omega⟩

/-- The 512 by 64 rectangle at row `r` and lane `a` lies inside the scratch. -/
theorem inb_piece (r a : ℕ) (hr : r + 512 ≤ 2048) (ha : a + 64 ≤ 256) :
    ∀ x, (![r, a] : Fin 2 → ℕ) x + (![512, 64] : Fin 2 → ℕ) x ≤ S2048x256.size x :=
  fun x => by fin_cases x <;> simp <;> omega

/-- One stored piece, at the 512 queries from `r` and the 64 lanes from `a`, is the group's context there. -/
theorem ctxOf_piece (Z : FVec Ideal S2048x768 .f32) (r a : ℕ) (hr : r + 512 ≤ 2048) (ha : a + 64 ≤ 256)
    (h64 : a % 64 = 0) (x : S512x64.Idx) :
    attnBlock (extractStridedSlice S512x64 ![r, 0] (truncf .bf16
        (mulf (extractStridedSlice S2048x64 ![0, a] Z (slices_cols a (by omega))) (broadcast S2048x64 qScale))
        bitsLt_bf16_f32) (slices_rows r hr))
      (truncf .bf16 (extractStridedSlice S2048x64 ![0, 256 + a] Z (slices_cols _ (by omega))) bitsLt_bf16_f32)
      (extractStridedSlice S2048x64 ![0, 512 + a] Z (slices_cols _ (by omega))) x
      = ctxOf Z ((Rect.unit (s := S2048x256) ![r, a] ![512, 64] (inb_piece r a hr ha)).emb x) := by
  rw [eq_ix2 x]
  exact attnBlock_cut Z r a _ _ _ _ _ _ _ _ _ _
    (by simp [Rect.emb, Rect.unit]) (by simp [Rect.emb, Rect.unit]) h64 rfl rfl

end Cert.Attn

end
-- ==== Proof.Point.lean ====
/- What one grid point leaves in the output block: the context's product with the group's output weights, onto the bias at
   the first group and onto what the point before left at the others. -/
module

public import proofs.«01_k».proof.Proof.Scratch

@[expose] public section

set_option maxRecDepth 16384

noncomputable section

namespace Cert.Attn

open Cert.KernelIdeal Cert.KernelIdeal.Gen Idealize.ShloMosaic Idealize.ShloMosaic.TcCoe

/-- The product of a run of context rows with the group's output weights. -/
def rowsOut (w : FVec Ideal S1x256x768 .bf16) (cx : FVec Ideal S512x256 .bf16) : FVec Ideal S512x768 .f32 :=
  matmul dot_S512x256_S256x768_S512x768_1_0_0_1_n_n none cx (shapeCast S256x768 w shapeCasts_S1x256x768_S256x768)
    (constant S512x768 .f32 0x00000000#32)

/-- What the first group stores for a run of rows. -/
def firstStore (w : FVec Ideal S1x256x768 .bf16) (b : FVec Ideal S1x768 .f32) (cx : FVec Ideal S512x256 .bf16) :
    FVec Ideal S1x512x768 .f32 :=
  shapeCast S1x512x768 (addf (rowsOut w cx)
    (broadcastTo S512x768 (shapeCast S1x768 b shapeCasts_S1x768_S1x768) broadcasts_S1x768_S512x768))
    shapeCasts_S512x768_S1x512x768

/-- What a later group stores for a run of rows, over the rows `o` already there. -/
def laterStore (w : FVec Ideal S1x256x768 .bf16) (o : FVec Ideal S1x512x768 .f32) (cx : FVec Ideal S512x256 .bf16) :
    FVec Ideal S1x512x768 .f32 :=
  shapeCast S1x512x768 (addf (shapeCast S512x768 o shapeCasts_S1x512x768_S512x768) (rowsOut w cx))
    shapeCasts_S512x768_S1x512x768

/-- A group's contribution to output row `n`, column `o`. -/
def groupOut (G : S2048x256.Idx → Elt Ideal .bf16) (w : FVec Ideal S1x256x768 .bf16) (n : Fin 2048) (o : Fin 768) : EReal :=
  ∑ l : Fin 256, G (ix2 n l) * w (ix3 0 l o)

/-- The first group's store at an element. -/
theorem firstStore_apply (w : FVec Ideal S1x256x768 .bf16) (b : FVec Ideal S1x768 .f32) (cx : FVec Ideal S512x256 .bf16)
    (i : Fin 512) (o : Fin 768) :
    firstStore w b cx (ix3 0 i o) = (∑ l : Fin 256, cx (ix2 i l) * w (ix3 0 l o)) + b (ix2 0 o) := by
  pointwise [firstStore, rowsOut]

/-- A later group's store at an element. -/
theorem laterStore_apply (w : FVec Ideal S1x256x768 .bf16) (p : FVec Ideal S1x512x768 .f32) (cx : FVec Ideal S512x256 .bf16)
    (i : Fin 512) (o : Fin 768) :
    laterStore w p cx (ix3 0 i o) = p (ix3 0 i o) + ∑ l : Fin 256, cx (ix2 i l) * w (ix3 0 l o) := by
  pointwise [laterStore, rowsOut]

/-- The rows that run `k` of 512 loads back from the scratch, whose pieces are parts of `G` and cover it. -/
theorem readCov_rows (G : S2048x256.Idx → Elt Ideal .bf16) (L : List (View.Piece (Elt Ideal) S2048x256 .bf16))
    (hL : View.PiecesOf G L) (hc : ∀ y : S2048x256.Idx, ∃ p ∈ L, y ∈ p.1.set) (r : ℕ) (hr : r + 512 ≤ 2048)
    (inb : ∀ x, (![r, 0] : Fin 2 → ℕ) x + (![512, 256] : Fin 2 → ℕ) x ≤ S2048x256.size x) (i : Fin 512) (l : Fin 256) :
    (View.whole cc0_scratch0).readCov L (Rect.unit (s := S2048x256) ![r, 0] ![512, 256] inb).toLoadRect (ix2 i l)
      = G (ix2 ⟨r + i.val, by omega⟩ l) := by
  rw [View.readCov_eq_canon']
  refine (View.canon_apply_of_pieces G L hL.mem _ (hc _)).trans (congrArg G ?_)
  blk_ext <;> rw [Rect.idx_unit_val] <;> simp

/-- Four stores of 512 rows, each run over the rows it loads back from the scratch, leave `H`. -/
theorem canon_of_runs (G : S2048x256.Idx → Elt Ideal .bf16) (L : List (View.Piece (Elt Ideal) S2048x256 .bf16))
    (hL : View.PiecesOf G L) (hc : ∀ y : S2048x256.Idx, ∃ p ∈ L, y ∈ p.1.set)
    (H : S1x2048x768.Idx → Elt Ideal .f32) (P : (r : ℕ) → r + 512 ≤ 2048 → FVec Ideal S512x256 .bf16 → FVec Ideal S1x512x768 .f32)
    (hP : ∀ (r : ℕ) (hr : r + 512 ≤ 2048) (cx : FVec Ideal S512x256 .bf16),
      (∀ i l, cx (ix2 i l) = G (ix2 ⟨r + i.val, by omega⟩ l)) →
      ∀ (i : Fin 512) (o : Fin 768), P r hr cx (ix3 0 i o) = H (ix3 0 ⟨r + i.val, by omega⟩ o)) (j : S1x2048x768.Idx) :
    View.canon (Val := Elt Ideal) (s := S1x2048x768) (e := .f32)
      [⟨Rect.unit ![0, 1536, 0] ![1, 512, 768] inb_S1x2048x768_S1x512x768_0_1536_0,
          P 1536 (by decide) ((View.whole cc0_scratch0).readCov L
            (Rect.unit (s := S2048x256) ![1536, 0] ![512, 256] inb_S2048x256_S512x256_1536_0).toLoadRect)⟩,
        ⟨Rect.unit ![0, 1024, 0] ![1, 512, 768] inb_S1x2048x768_S1x512x768_0_1024_0,
          P 1024 (by decide) ((View.whole cc0_scratch0).readCov L
            (Rect.unit (s := S2048x256) ![1024, 0] ![512, 256] inb_S2048x256_S512x256_1024_0).toLoadRect)⟩,
        ⟨Rect.unit ![0, 512, 0] ![1, 512, 768] inb_S1x2048x768_S1x512x768_0_512_0,
          P 512 (by decide) ((View.whole cc0_scratch0).readCov L
            (Rect.unit (s := S2048x256) ![512, 0] ![512, 256] inb_S2048x256_S512x256_512_0).toLoadRect)⟩,
        ⟨Rect.unit ![0, 0, 0] ![1, 512, 768] inb_S1x2048x768_S1x512x768_0_0_0,
          P 0 (by decide) ((View.whole cc0_scratch0).readCov L
            (Rect.unit (s := S2048x256) ![0, 0] ![512, 256] inb_S2048x256_S512x256_0_0).toLoadRect)⟩] j = H j := by
  have key : ∀ (r : ℕ) (hr : r + 512 ≤ 2048)
      (inb : ∀ x, (![r, 0] : Fin 2 → ℕ) x + (![512, 256] : Fin 2 → ℕ) x ≤ S2048x256.size x)
      (inb' : ∀ x, (![0, r, 0] : Fin 3 → ℕ) x + (![1, 512, 768] : Fin 3 → ℕ) x ≤ S1x2048x768.size x)
      (x : S1x512x768.Idx),
      P r hr ((View.whole cc0_scratch0).readCov L (Rect.unit (s := S2048x256) ![r, 0] ![512, 256] inb).toLoadRect) x
        = H ((Rect.unit (s := S1x2048x768) ![0, r, 0] ![1, 512, 768] inb').emb x) := fun r hr inb inb' x => by
    idx_vars x
    obtain rfl : x0 = 0 := Subsingleton.elim _ _
    rw [hP r hr _ (fun i l => readCov_rows G L hL hc r hr inb i l)]
    refine congrArg H ?_
    blk_ext
  refine View.canon_apply_of_pieces H _ (View.PiecesOf.mem ?_) j ?_
  · exact ⟨key _ (by omega) _ inb_S1x2048x768_S1x512x768_0_1536_0, key _ (by omega) _ inb_S1x2048x768_S1x512x768_0_1024_0,
      key _ (by omega) _ inb_S1x2048x768_S1x512x768_0_512_0, key _ (by omega) _ inb_S1x2048x768_S1x512x768_0_0_0, trivial⟩
  · refine View.cover_of_tiledL (s := S1x2048x768) _ (![1, 512, 768] : Fin 3 → ℕ) ?_ j
    sl_kernel_rfl

end Cert.Attn

end
-- ==== Proof.Outs.lean ====
/- The output block after one grid point, read off the run's stores. -/
module

public import proofs.«01_k».proof.Proof.Point

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ)

/-- A grid point's projected block: its batch's rows times its group's query, key and value weights, onto the biases. -/
def proj (c : Dev nD) (t : Fin cfg0.N) : FVec Ideal S2048x768 .f32 := k0_pay4 (iblk m c 0 t) (iblk m c 1 t) (iblk m c 2 t)

/-- A grid point's contribution to its batch's output. -/
def pointOut (c : Dev nD) (t : Fin cfg0.N) (n : Fin 2048) (o : Fin 768) : EReal :=
  groupOut (ctxOf (proj m c t)) (iblk m c 3 t) n o

/-- At a batch's first group the block is the group's contribution plus the bias. -/
theorem outs_first (c : Dev nD) (t : Fin cfg0.N) (h0 : t.val % 3 = 0) (j : S1x2048x768.Idx) :
    outsAt0 m c t.val t.isLt j = pointOut m c t (j 1) (j 2) + iblk m c 4 t (ix2 0 (j 2)) := by
  have h1 : ¬1 ≤ t.val % 3 := by omega
  rw [outsAt0_A m c t h0 h1 h0 h1 h0 h1 h0 h1]
  frame_open
  simp (disch := decide) only [View.read_writes_junk_eq_canon, View.ld_unit_lit', View.readAt_eq_ld,
    Memref.IsWhole.read_unread]
  refine canon_of_runs (ctxOf (proj m c t)) _ ?_ ?_
    (fun j => pointOut m c t (j 1) (j 2) + iblk m c 4 t (ix2 0 (j 2)))
    (fun _ _ cx => firstStore (iblk m c 3 t) (iblk m c 4 t) cx) ?_ j
  · refine ⟨?_, ?_, ?_, ?_, ?_, ?_, ?_, ?_, ?_, ?_, ?_, ?_, ?_, ?_, ?_, ?_, trivial⟩ <;> intro x <;>
      refine Eq.trans ?_ (ctxOf_piece (proj m c t) _ _ (by decide) (by decide) (by decide) x) <;> rfl
  · refine View.cover_of_tiledL (s := S2048x256) _ (![512, 64] : Fin 2 → ℕ) ?_
    sl_kernel_rfl
  · intro r hr cx hcx i o
    rw [firstStore_apply]
    simp only [hcx]
    rfl

/-- The rows from `r` lie inside the output block. -/
theorem inb_rows (r : ℕ) (hr : r + 512 ≤ 2048) :
    ∀ x, (![0, r, 0] : Fin 3 → ℕ) x + (![1, 512, 768] : Fin 3 → ℕ) x ≤ S1x2048x768.size x :=
  fun x => by fin_cases x <;> simp <;> omega

/-- At a batch's later groups the block is what the point before left plus the group's contribution. -/
theorem outs_later (c : Dev nD) (t : Fin cfg0.N) (h0 : ¬t.val % 3 = 0) (j : S1x2048x768.Idx) :
    outsAt0 m c t.val t.isLt j
      = outsAt0 m c (t.val - 1) (Nat.lt_of_le_of_lt (Nat.sub_le _ _) t.isLt) j + pointOut m c t (j 1) (j 2) := by
  have h1 : 1 ≤ t.val % 3 := by omega
  rw [outsAt0_B m c t h0 h1 h0 h1 h0 h1 h0 h1]
  frame_open
  simp (disch := decide) only [View.read_writes_junk_eq_canon, View.ld_unit_lit', View.readAt_eq_ld,
    Memref.IsWhole.read_unread]
  generalize outsAt0 m c (t.val - 1) (Nat.lt_of_le_of_lt (Nat.sub_le _ _) t.isLt) = prev
  refine canon_of_runs (ctxOf (proj m c t)) _ ?_ ?_
    (fun j => prev j + pointOut m c t (j 1) (j 2))
    (fun r hr cx => laterStore (iblk m c 3 t)
      (View.ld prev (Rect.unit (s := S1x2048x768) ![0, r, 0] ![1, 512, 768] (inb_rows r hr))) cx) ?_ j
  · refine ⟨?_, ?_, ?_, ?_, ?_, ?_, ?_, ?_, ?_, ?_, ?_, ?_, ?_, ?_, ?_, ?_, trivial⟩ <;> intro x <;>
      refine Eq.trans ?_ (ctxOf_piece (proj m c t) _ _ (by decide) (by decide) (by decide) x) <;> rfl
  · refine View.cover_of_tiledL (s := S2048x256) _ (![512, 64] : Fin 2 → ℕ) ?_
    sl_kernel_rfl
  · intro r hr cx hcx i o
    rw [laterStore_apply]
    simp only [hcx]
    refine congrArg₂ (· + ·) (congrArg prev ?_) rfl
    blk_ext <;> rw [Rect.idx_unit_val] <;> simp

end Cert.Attn

end
-- ==== Proof.Host.lean ====
/-
  What the blocks that a grid point reads hold, in terms of the arguments of the call: the operands are laid out by
  host operations before the launch (the weights of the three projections side by side, four heads to a group).
-/
module

public import proofs.«01_k».proof.Proof.Outs
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe

/-! ## Heads, lanes and projections -/

/-- The head that column `j` of group `g` belongs to: four heads of 64 lanes make a group. -/
def headOf (g : Fin 3) (j : Fin 256) : Fin 12 := ⟨4 * g.val + j.val / 64, by omega⟩

/-- The lane of column `j` inside its head. -/
def laneOf (j : Fin 256) : Fin 64 := ⟨j.val % 64, Nat.mod_lt _ (by decide)⟩

/-- One projection of the input at a batch element, head, position and lane: a row of `x` against a column of the
    head's weights, plus the head's bias. -/
def headProj (x : FVec Ideal S4x2048x768 .f32) (w : FVec Ideal S12x768x64 .f32) (b : FVec Ideal S12x64 .f32)
    (i : Fin 4) (h : Fin 12) (n : Fin 2048) (d : Fin 64) : EReal :=
  (∑ e : Fin 768, x (ix3 i n e) * w (ix3 h e d)) + b (ix2 h d)

variable (m : (ℓ : Loc nD τ sig) → Buf (Elt Ideal) ℓ)

/-- The input as launched. -/
def argX (c : Dev nD) : FVec Ideal S4x2048x768 .f32 := m ((c : Thread nD τ).loc main_arg0)

/-- The weights of the query (0), key (1) and value (2) projections as launched. -/
def argW (c : Dev nD) : Fin 3 → FVec Ideal S12x768x64 .f32
  | 0 => m ((c : Thread nD τ).loc main_arg1)
  | 1 => m ((c : Thread nD τ).loc main_arg3)
  | 2 => m ((c : Thread nD τ).loc main_arg5)

/-- The biases of the query (0), key (1) and value (2) projections as launched. -/
def argB (c : Dev nD) : Fin 3 → FVec Ideal S12x64 .f32
  | 0 => m ((c : Thread nD τ).loc main_arg2)
  | 1 => m ((c : Thread nD τ).loc main_arg4)
  | 2 => m ((c : Thread nD τ).loc main_arg6)

/-- The weights of the output projection as launched. -/
def argO (c : Dev nD) : FVec Ideal S768x768 .f32 := m ((c : Thread nD τ).loc main_arg7)

/-- The bias of the output projection as launched. -/
def argC (c : Dev nD) : FVec Ideal S768 .f32 := m ((c : Thread nD τ).loc main_arg8)

/-! ## The operands the host lays out -/

/-- Converting the input's format leaves its values. -/
theorem entry_x (c : Dev nD) (b : Fin 4) (n : Fin 2048) (e : Fin 768) :
    V m c main_v18 (ix3 b n e) = argX m c (ix3 b n e) := by
  entry_read
  pointwise [argX]

/-- Column `256 s + j` of a group's weights is the column of projection `s` at the head and lane of `j`. -/
theorem entry_w (c : Dev nD) (g : Fin 3) (e : Fin 768) (s : Fin 3) (j : Fin 256) :
    V m c main_v10 (ix3 g e ⟨256 * s.val + j.val, by omega⟩) = argW m c s (ix3 (headOf g j) e (laneOf j)) := by
  unfold V
  after_reads_at
  by_cases h0 : 256 * s.val + j.val < 256
  · obtain rfl : s = 0 := Fin.ext (by simp; omega)
    rw [dif_pos h0]
    after_reads_at
    blk_ext [argW, headOf, laneOf]
  · rw [dif_neg h0]
    by_cases h1 : 256 * s.val + j.val - 256 < 256
    · obtain rfl : s = 1 := Fin.ext (by simp; omega)
      rw [dif_pos h1]
      after_reads_at
      blk_ext [argW, headOf, laneOf]
    · obtain rfl : s = 2 := Fin.ext (by simp; omega)
      rw [dif_neg h1]
      after_reads_at
      blk_ext [argW, headOf, laneOf]

/-- Column `256 s + j` of a group's bias row is the bias of projection `s` at the head and lane of `j`. -/
theorem entry_b (c : Dev nD) (g : Fin 3) (s : Fin 3) (j : Fin 256) :
    V m c main_v14 (ix3 g 0 ⟨256 * s.val + j.val, by omega⟩) = argB m c s (ix2 (headOf g j) (laneOf j)) := by
  unfold V
  after_reads_at
  by_cases h0 : 256 * s.val + j.val < 256
  · obtain rfl : s = 0 := Fin.ext (by simp; omega)
    rw [dif_pos h0]
    after_reads_at
    blk_ext [argB, headOf, laneOf]
  · rw [dif_neg h0]
    by_cases h1 : 256 * s.val + j.val - 256 < 256
    · obtain rfl : s = 1 := Fin.ext (by simp; omega)
      rw [dif_pos h1]
      after_reads_at
      blk_ext [argB, headOf, laneOf]
    · obtain rfl : s = 2 := Fin.ext (by simp; omega)
      rw [dif_neg h1]
      after_reads_at
      blk_ext [argB, headOf, laneOf]

/-- The output weights of group `g` are rows `256 g …` of the whole. -/
theorem entry_o (c : Dev nD) (g : Fin 3) (l : Fin 256) (o : Fin 768) :
    V m c main_v16 (ix3 g l o) = argO m c (ix2 ⟨256 * g.val + l.val, by omega⟩ o) := by
  entry_read
  pointwise [argO]
  blk_ext

/-- The output bias as a row of one line. -/
theorem entry_c (c : Dev nD) (o : Fin 768) : V m c main_v17 (ix2 0 o) = argC m c (ix1 o) := by
  entry_read
  pointwise [argC]

/-! ## The blocks of a grid point -/

/-- The batch element a point of the grid works on. -/
def batchAt (t : Fin cfg0.N) : Fin 4 := ⟨t.val / 3, by have h : t.val < 12 := t.isLt; omega⟩

/-- The group of four heads a point of the grid works on. -/
def groupAt (t : Fin cfg0.N) : Fin 3 := ⟨t.val % 3, Nat.mod_lt _ (by decide)⟩

/-- Where each window stands at each of the twelve points. -/
theorem index_facts : ∀ t : Fin cfg0.N, win0_0.index t = ![t.val / 3, 0, 0] ∧ win0_1.index t = ![t.val % 3, 0, 0]
    ∧ win0_2.index t = ![t.val % 3, 0, 0] ∧ win0_3.index t = ![t.val % 3, 0, 0] ∧ win0_4.index t = ![0, 0]
    ∧ win0_5.index t = ![t.val / 3, 0, 0] := by decide +kernel

/-- The input block of a point. -/
def blockX (c : Dev nD) (t : Fin cfg0.N) : FVec Ideal S1x2048x768 .bf16 := iblk m c 0 t

/-- The block of projection weights of a point. -/
def blockW (c : Dev nD) (t : Fin cfg0.N) : FVec Ideal S1x768x768 .bf16 := iblk m c 1 t

/-- The block of projection biases of a point. -/
def blockB (c : Dev nD) (t : Fin cfg0.N) : FVec Ideal S1x1x768 .f32 := iblk m c 2 t

/-- The input block is the batch element's slab of the input. -/
theorem blockX_apply (c : Dev nD) (t : Fin cfg0.N) (n : Fin 2048) (e : Fin 768) :
    blockX m c t (ix3 0 n e) = argX m c (ix3 (batchAt t) n e) := by
  rw [← entry_x]
  blk_ext [blockX, iblk, batchAt, index_facts t]

/-- The weight block is the group's, column by column. -/
theorem blockW_apply (c : Dev nD) (t : Fin cfg0.N) (e : Fin 768) (s : Fin 3) (j : Fin 256) :
    blockW m c t (ix3 0 e ⟨256 * s.val + j.val, by omega⟩)
      = argW m c s (ix3 (headOf (groupAt t) j) e (laneOf j)) := by
  rw [← entry_w]
  blk_ext [blockW, iblk, groupAt, index_facts t]

/-- The bias block is the group's, column by column. -/
theorem blockB_apply (c : Dev nD) (t : Fin cfg0.N) (s : Fin 3) (j : Fin 256) :
    blockB m c t (ix3 0 0 ⟨256 * s.val + j.val, by omega⟩)
      = argB m c s (ix2 (headOf (groupAt t) j) (laneOf j)) := by
  rw [← entry_b]
  blk_ext [blockB, iblk, groupAt, index_facts t]

/-- The block of output weights is the group's rows. -/
theorem blockO_apply (c : Dev nD) (t : Fin cfg0.N) (l : Fin 256) (o : Fin 768) :
    iblk m c 3 t (ix3 0 l o) = argO m c (ix2 ⟨256 * (groupAt t).val + l.val, by omega⟩ o) := by
  rw [← entry_o]
  blk_ext [iblk, groupAt, index_facts t]

/-- The block of the output bias is the whole of it, at every point. -/
theorem blockC_apply (c : Dev nD) (t : Fin cfg0.N) (o : Fin 768) :
    iblk m c 4 t (ix2 0 o) = argC m c (ix1 o) := by
  rw [← entry_c]
  blk_ext [iblk, index_facts t]

/-- The point's projection over its blocks: a matrix product and a bias. -/
theorem proj_blocks (c : Dev nD) (t : Fin cfg0.N) (n : Fin 2048) (j : Fin 768) :
    proj m c t (ix2 n j)
      = (∑ e : Fin 768, blockX m c t (ix3 0 n e) * blockW m c t (ix3 0 e j)) + blockB m c t (ix3 0 0 j) := by
  pointwise [proj, k0_pay4, blockX, blockW, blockB]

/-- Column `256 s + j` of the point's projection is projection `s` of the batch element, at the head and lane of `j`. -/
theorem proj_apply (c : Dev nD) (t : Fin cfg0.N) (n : Fin 2048) (s : Fin 3) (j : Fin 256) :
    proj m c t (ix2 n ⟨256 * s.val + j.val, by omega⟩)
      = headProj (argX m c) (argW m c s) (argB m c s) (batchAt t) (headOf (groupAt t) j) n (laneOf j) := by
  rw [proj_blocks, blockB_apply, headProj]
  simp only [blockX_apply, blockW_apply]

end Cert.Attn

end
-- ==== Proof.Array.lean ====
/-
  What the launch leaves in the output array: the output bias plus, over the three groups of four heads and the 256 lanes
  of a group, the context of that lane times its row of the output weights.
-/
module

public import proofs.«01_k».proof.Proof.Host

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ)

/-- Projection `s` of the call: 0 the queries, 1 the keys, 2 the values. -/
def argProj (c : Dev nD) (s : Fin 3) : Fin 4 → Fin 12 → Fin 2048 → Fin 64 → EReal :=
  headProj (argX m c) (argW m c s) (argB m c s)

/-- The kernel's context of a batch element, head, query and lane. -/
def fusedCtx (c : Dev nD) (i : Fin 4) (h : Fin 12) (n : Fin 2048) (d : Fin 64) : EReal :=
  fusedRow (fun p => ∑ d' : Fin 64, (argProj m c 0 i h n d' * qScale) * argProj m c 1 i h p d')
    (fun p => argProj m c 2 i h p d)

/-- What group `g` adds to an element of the output. -/
def groupAdd (c : Dev nD) (i : Fin 4) (n : Fin 2048) (o : Fin 768) (g : Fin 3) : EReal :=
  ∑ l : Fin 256, fusedCtx m c i (headOf g l) n (laneOf l) * argO m c (ix2 ⟨256 * g.val + l.val, by omega⟩ o)

/-- The element of the output array the launch leaves. -/
def kernelOut (c : Dev nD) (y : S4x2048x768.Idx) : EReal :=
  argC m c (ix1 (y 2)) + ∑ g : Fin 3, groupAdd m c (y 0) (y 1) (y 2) g

/-- The head and lane of a lane's neighbours in its head. -/
theorem headOf_same (g : Fin 3) (j : Fin 256) (d : Fin 64) (h : j.val / 64 * 64 + d.val < 256) :
    headOf g ⟨j.val / 64 * 64 + d.val, h⟩ = headOf g j ∧ laneOf ⟨j.val / 64 * 64 + d.val, h⟩ = d := by
  constructor <;> apply Fin.ext <;> simp only [headOf, laneOf] <;> omega

/-- A point's context of a query and a lane is the head's. -/
theorem groupCtx_proj (c : Dev nD) (t : Fin cfg0.N) (n : Fin 2048) (j : Fin 256) :
    groupCtx (proj m c t) n j = fusedCtx m c (batchAt t) (headOf (groupAt t) j) n (laneOf j) := by
  have hq (n : Fin 2048) (j : Fin 256) (k : Fin 768) (hk : k.val = j.val) :
      proj m c t (ix2 n k) = argProj m c 0 (batchAt t) (headOf (groupAt t) j) n (laneOf j) := by
    rw [argProj, ← proj_apply]
    exact congrArg (fun k => proj m c t (ix2 n k)) (Fin.ext (by simp [hk]))
  have hk (n : Fin 2048) (j : Fin 256) (k : Fin 768) (hk : k.val = 256 + j.val) :
      proj m c t (ix2 n k) = argProj m c 1 (batchAt t) (headOf (groupAt t) j) n (laneOf j) := by
    rw [argProj, ← proj_apply]
    exact congrArg (fun k => proj m c t (ix2 n k)) (Fin.ext (by simp [hk]))
  have hv (n : Fin 2048) (j : Fin 256) (k : Fin 768) (hk : k.val = 512 + j.val) :
      proj m c t (ix2 n k) = argProj m c 2 (batchAt t) (headOf (groupAt t) j) n (laneOf j) := by
    rw [argProj, ← proj_apply]
    exact congrArg (fun k => proj m c t (ix2 n k)) (Fin.ext (by simp [hk]))
  unfold groupCtx fusedCtx
  refine congrArg₂ fusedRow (funext fun p => Finset.sum_congr rfl fun d _ => ?_) (funext fun p => hv p j _ rfl)
  have hb : j.val / 64 * 64 + d.val < 256 := by omega
  obtain ⟨e1, e2⟩ := headOf_same (groupAt t) j d hb
  rw [hq n ⟨_, hb⟩ _ rfl, hk p ⟨_, hb⟩ _ rfl, e1, e2]

/-- A point's contribution is its group's. -/
theorem pointOut_eq (c : Dev nD) (t : Fin cfg0.N) (n : Fin 2048) (o : Fin 768) :
    pointOut m c t n o = groupAdd m c (batchAt t) n o (groupAt t) := by
  unfold pointOut groupOut groupAdd
  refine Finset.sum_congr rfl fun l _ => congrArg₂ (· * ·) ?_ (blockO_apply m c t l o)
  exact groupCtx_proj m c t n l

/-- What a batch element's last point leaves in its block. -/
theorem outs_last (c : Dev nD) (t : Fin cfg0.N) (h2 : t.val % 3 = 2) (j : S1x2048x768.Idx) :
    outsAt0 m c t.val t.isLt j = kernelOut m c (ix3 (batchAt t) (j 1) (j 2)) := by
  have hN : t.val < 12 := t.isLt
  let t1 : Fin cfg0.N := ⟨t.val - 1, Nat.lt_of_le_of_lt (Nat.sub_le _ _) t.isLt⟩
  let t0 : Fin cfg0.N := ⟨t1.val - 1, Nat.lt_of_le_of_lt (Nat.sub_le _ _) t1.isLt⟩
  have b1 : batchAt t1 = batchAt t := Fin.ext (by simp only [batchAt, t1]; omega)
  have b0 : batchAt t0 = batchAt t := Fin.ext (by simp only [batchAt, t0, t1]; omega)
  have g2 : groupAt t = 2 := Fin.ext h2
  have g1 : groupAt t1 = 1 := Fin.ext (by show (t.val - 1) % 3 = 1; omega)
  have g0 : groupAt t0 = 0 := Fin.ext (by show (t.val - 1 - 1) % 3 = 0; omega)
  rw [outs_later m c t (by omega), outs_later m c t1 (by show ¬(t.val - 1) % 3 = 0; omega),
    outs_first m c t0 (by show (t.val - 1 - 1) % 3 = 0; omega)]
  have p0 := (pointOut_eq m c t0 (j 1) (j 2)).trans (by rw [b0, g0])
  have p1 := (pointOut_eq m c t1 (j 1) (j 2)).trans (by rw [b1, g1])
  have p2 := (pointOut_eq m c t (j 1) (j 2)).trans (by rw [g2])
  refine (congrArg₂ (· + ·) (congrArg₂ (· + ·) (congrArg₂ (· + ·) p0 (blockC_apply m c t0 (j 2))) p1) p2).trans ?_
  show _ = argC m c (ix1 (j 2)) + ∑ g : Fin 3, groupAdd m c (batchAt t) (j 1) (j 2) g
  rw [Fin.sum_univ_three]
  abel

/-- The output array after the launch. -/
theorem array_eq (c : Dev nD) : (dats m 0 c).arrAt 5 cfg0.N = kernelOut m c := by
  refine (dats m 0 c).arrAt_eq_of_covers 5 _ (by decide +kernel) fun t hf y => ?_
  blk_simp
  rw [after0_5, outs_last m c t ((flush0_5 t).mp hf)]
  refine congrArg (kernelOut m c) ?_
  blk_ext [batchAt, index_facts t]

end Cert.Attn

end
-- ==== Proof.Reference.lean ====
/-
  The reference's result at an index: the softmax contexts times the output weights, plus the output bias. The reference
  is read in stages: a projection, the scaled scores, the softmax of the scores, and the output.
-/
module

public import proofs.«01_k».proof.Proof.Array
public import proofs.«01_k».proof.Proof.Gen.ReferenceIdeal.Run

@[expose] public section

set_option maxRecDepth 16384

noncomputable section

namespace Cert.Attn

open Cert.ReferenceIdeal Cert.ReferenceIdeal.Gen Idealize.ShloMosaic Idealize.ShloMosaic.TcCoe

/-! ## The stages -/

/-- A projection of the whole input, laid out by batch element, head, position and lane. -/
def refProj (x : FVec Ideal S4x2048x768 .f32) (w : FVec Ideal S12x768x64 .f32) (b : FVec Ideal S12x64 .f32) :
    FVec Ideal S4x12x2048x64 .f32 :=
  addf (transpose S4x12x2048x64 [2, 0, 3, 1]
      (Host.dotGeneral dot_S12x768x64_S4x2048x768_S12x64x4x2048_1_2_02_01_n_n none w x)
      transposes_S12x64x4x2048_S4x12x2048x64_2_0_3_1)
    (broadcastInDim S4x12x2048x64 ![0, 1, 2, 3] bcast_S1x12x1x64_S4x12x2048x64_0_1_2_3
      (broadcastInDim S1x12x1x64 ![1, 3] bcast_S12x64_S1x12x1x64_1_3 b))

/-- The scores of every query against every key, over the root of the head's width. -/
def refScores (q k : FVec Ideal S4x12x2048x64 .f32) : FVec Ideal S4x12x2048x2048 .f32 :=
  Host.divf (Host.dotGeneral dot_S4x12x2048x64_S4x12x2048x64_S4x12x2048x2048_3_3_2_2_01_01 none q k)
    (broadcastInDim S4x12x2048x2048 ![] bcast_S_S4x12x2048x2048 (Host.sqrt (constant S_ .f32 0x42800000#32)))

/-- Every row's largest score. -/
def refTop (s : FVec Ideal S4x12x2048x2048 .f32) : FVec Ideal S4x12x2048 .f32 :=
  Host.reduce FloatOps.maximumf s (constant S_ .f32 0xFF800000#32) reducesTo_S4x12x2048x2048_S4x12x2048_d3 h_S_

/-- A row's exponentials, its largest score taken away first. -/
def refExps (s : FVec Ideal S4x12x2048x2048 .f32) (t : FVec Ideal S4x12x2048 .f32) : FVec Ideal S4x12x2048x2048 .f32 :=
  Host.exp (subf s (broadcastInDim S4x12x2048x2048 ![0, 1, 2, 3] bcast_S4x12x2048x1_S4x12x2048x2048_0_1_2_3
    (broadcastInDim S4x12x2048x1 ![0, 1, 2] bcast_S4x12x2048_S4x12x2048x1_0_1_2
      (maximumf (broadcastInDim S4x12x2048 ![] bcast_S_S4x12x2048 (constant S_ .f32 0xFF800000#32)) t))))

/-- A row's weights: its exponentials over their sum. -/
def refWeights (e : FVec Ideal S4x12x2048x2048 .f32) : FVec Ideal S4x12x2048x2048 .f32 :=
  Host.divf e (broadcastInDim S4x12x2048x2048 ![0, 1, 2, 3] bcast_S4x12x2048x1_S4x12x2048x2048_0_1_2_3
    (broadcastInDim S4x12x2048x1 ![0, 1, 2] bcast_S4x12x2048_S4x12x2048x1_0_1_2
      (Host.reduceAdd e (constant S_ .f32 0x00000000#32) reducesTo_S4x12x2048x2048_S4x12x2048_d3 h_S_)))

/-- The weighted values, the heads side by side, times the output weights, plus the output bias. -/
def refOut (a : FVec Ideal S4x12x2048x2048 .f32) (v : FVec Ideal S4x12x2048x64 .f32) (w : FVec Ideal S768x768 .f32)
    (b : FVec Ideal S768 .f32) : FVec Ideal S4x2048x768 .f32 :=
  addf (Host.dotGeneral dot_S4x2048x768_S768x768_S4x2048x768_2_0_01_1_n_n none
      (shapeCast S4x2048x768 (transpose S4x2048x12x64 [0, 2, 1, 3]
        (Host.dotGeneral dot_S4x12x2048x2048_S4x12x2048x64_S4x12x2048x64_3_2_2_3_01_01 none a v)
        transposes_S4x12x2048x64_S4x2048x12x64_0_2_1_3) shapeCasts_S4x2048x12x64_S4x2048x768) w)
    (broadcastInDim S4x2048x768 ![0, 1, 2] bcast_S1x1x768_S4x2048x768_0_1_2
      (broadcastInDim S1x1x768 ![2] bcast_S768_S1x1x768_2 b))

/-! ## The stages at an index -/

/-- A projection at an element, the factors in the kernel's order. -/
theorem refProj_apply (x : FVec Ideal S4x2048x768 .f32) (w : FVec Ideal S12x768x64 .f32) (b : FVec Ideal S12x64 .f32)
    (i : Fin 4) (h : Fin 12) (n : Fin 2048) (d : Fin 64) :
    refProj x w b (ix4 i h n d) = headProj x w b i h n d := by
  pointwise [refProj, headProj]
  exact congrArg (· + b (ix2 h d)) (Finset.sum_congr rfl fun e _ => mul_comm _ _)

/-- A score is the dot product of a query and a key over eight. -/
theorem refScores_apply (q k : FVec Ideal S4x12x2048x64 .f32) (i : Fin 4) (h : Fin 12) (n p : Fin 2048) :
    refScores q k (ix4 i h n p) = Ideal.div (∑ d : Fin 64, q (ix4 i h n d) * k (ix4 i h p d)) ((8 : ℝ) : EReal) := by
  pointwise [refScores]
  rw [sqrt_width]

/-- A row's largest score at an element. -/
theorem refTop_apply (s : FVec Ideal S4x12x2048x2048 .f32) (i : Fin 4) (h : Fin 12) (n : Fin 2048) :
    refTop s (ix3 i h n) = rowMax fun p => s (ix4 i h n p) := by
  pointwise [refTop]
  rw [ofBits_negInf]
  rfl

/-- An exponential at an element. -/
theorem refExps_apply (s : FVec Ideal S4x12x2048x2048 .f32) (t : FVec Ideal S4x12x2048 .f32) (i : Fin 4) (h : Fin 12)
    (n p : Fin 2048) : refExps s t (ix4 i h n p) = Ideal.exp (s (ix4 i h n p) - t (ix3 i h n)) := by
  pointwise [refExps]
  rw [ofBits_negInf, max_eq_right bot_le]

/-- A weight at an element. -/
theorem refWeights_apply (e : FVec Ideal S4x12x2048x2048 .f32) (i : Fin 4) (h : Fin 12) (n p : Fin 2048) :
    refWeights e (ix4 i h n p) = Ideal.div (e (ix4 i h n p)) (∑ p : Fin 2048, e (ix4 i h n p)) := by
  pointwise [refWeights]

/-- An element of the output. -/
theorem refOut_apply (a : FVec Ideal S4x12x2048x2048 .f32) (v : FVec Ideal S4x12x2048x64 .f32)
    (w : FVec Ideal S768x768 .f32) (b : FVec Ideal S768 .f32) (i : Fin 4) (n : Fin 2048) (o : Fin 768) :
    refOut a v w b (ix3 i n o)
      = (∑ k : Fin 768, (∑ p : Fin 2048, a (ix4 i ⟨k.val / 64, by omega⟩ n p)
          * v (ix4 i ⟨k.val / 64, by omega⟩ p ⟨k.val % 64, by omega⟩)) * w (ix2 k o)) + b (ix1 o) := by
  pointwise [refOut]

/-- The softmax contexts of a batch element, head, query and lane. -/
def softCtx (q k v : Fin 2048 → Fin 64 → EReal) (n : Fin 2048) (d : Fin 64) : EReal :=
  softmaxRow (fun p => Ideal.div (∑ d' : Fin 64, q n d' * k p d') ((8 : ℝ) : EReal)) (fun p => v p d)

/-- The softmax stages weigh the values as the softmax of the scores does. -/
theorem stages_row (q k v : FVec Ideal S4x12x2048x64 .f32) (i : Fin 4) (h : Fin 12) (n : Fin 2048) (d : Fin 64) :
    ∑ p : Fin 2048, refWeights (refExps (refScores q k) (refTop (refScores q k))) (ix4 i h n p) * v (ix4 i h p d)
      = softCtx (fun n d => q (ix4 i h n d)) (fun n d => k (ix4 i h n d)) (fun n d => v (ix4 i h n d)) n d := by
  simp only [refWeights_apply, refExps_apply, refTop_apply, refScores_apply, softCtx, softmaxRow]

variable (m : (ℓ : Loc nD τ sig) → Buf (Elt Ideal) ℓ)

/-- The reference's result is its stages one after the other. -/
theorem res_stages (c : Dev nD) (x : FVec Ideal S4x2048x768 .f32) (wq wk wv : FVec Ideal S12x768x64 .f32)
    (bq bk bv : FVec Ideal S12x64 .f32) (wo : FVec Ideal S768x768 .f32) (bo : FVec Ideal S768 .f32)
    (h0 : m ((c : Thread nD τ).loc main_arg0) = x) (h1 : m ((c : Thread nD τ).loc main_arg1) = wq)
    (h2 : m ((c : Thread nD τ).loc main_arg2) = bq) (h3 : m ((c : Thread nD τ).loc main_arg3) = wk)
    (h4 : m ((c : Thread nD τ).loc main_arg4) = bk) (h5 : m ((c : Thread nD τ).loc main_arg5) = wv)
    (h6 : m ((c : Thread nD τ).loc main_arg6) = bv) (h7 : m ((c : Thread nD τ).loc main_arg7) = wo)
    (h8 : m ((c : Thread nD τ).loc main_arg8) = bo) :
    Value.res_main_v36 m c = refOut
      (refWeights (refExps (refScores (refProj x wq bq) (refProj x wk bk))
        (refTop (refScores (refProj x wq bq) (refProj x wk bk))))) (refProj x wv bv) wo bo := by
  subst h0 h1 h2 h3 h4 h5 h6 h7 h8
  unfold Value.res_main_v36
  rfl

end Cert.Attn

end
-- ==== Proof.Equation.lean ====
/-
  The kernel's output is the reference's wherever the queries and keys are real numbers: each context by the softmax
  identity, then the 768 lanes counted three groups of 256.
-/
module

public import proofs.«01_k».proof.Proof.Reference

@[expose] public section

set_option maxRecDepth 16384

noncomputable section

namespace Cert.Attn

open Idealize.ShloMosaic Idealize.ShloMosaic.TcCoe
open Cert.KernelIdeal (S4x2048x768 S12x768x64 S12x64 S768x768 S768)

/-- The named constant is the reciprocal of eight times the natural logarithm of two. -/
theorem qScale_eq : qScale = (((8 * Real.log 2)⁻¹ : ℝ) : EReal) := by
  rfl

/-- A finite array's elements are real numbers. -/
def Finite {s : Shape} (x : FVec Ideal s .f32) : Prop := ∀ i, ∃ r : ℝ, x i = (r : EReal)

/-- A projection of finite arrays is a real number. -/
theorem headProj_real {x : FVec Ideal S4x2048x768 .f32} {w : FVec Ideal S12x768x64 .f32} {b : FVec Ideal S12x64 .f32}
    (hx : Finite x) (hw : Finite w) (hb : Finite b) (i : Fin 4) (h : Fin 12) :
    ∃ r : Fin 2048 → Fin 64 → ℝ, ∀ n d, headProj x w b i h n d = (r n d : EReal) := by
  choose x' ex using hx
  choose w' ew using hw
  choose b' eb using hb
  refine ⟨fun n d => (∑ e : Fin 768, x' (ix3 i n e) * w' (ix3 h e d)) + b' (ix2 h d), fun n d => ?_⟩
  simp only [headProj, ex, ew, eb, EReal.coe_add, coe_sum, EReal.coe_mul]

/-- The kernel's score is the reference's over the logarithm of two. -/
theorem score_eq (q k : Fin 64 → ℝ) :
    ∑ d : Fin 64, ((q d : EReal) * qScale) * (k d : EReal)
      = ((((∑ d : Fin 64, q d * k d) / 8) * (Real.log 2)⁻¹ : ℝ) : EReal) := by
  simp only [qScale_eq, ← EReal.coe_mul, ← coe_sum]
  congr 1
  rw [div_mul_eq_mul_div, Finset.sum_mul, Finset.sum_div]
  refine Finset.sum_congr rfl fun d _ => ?_
  rw [mul_inv]
  ring

/-- The kernel's context of real queries and keys is the softmax context. -/
theorem ctx_eq (q k : Fin 2048 → Fin 64 → ℝ) (v : Fin 2048 → Fin 64 → EReal) (n : Fin 2048) (d : Fin 64) :
    fusedRow (fun p => ∑ d' : Fin 64, ((q n d' : EReal) * qScale) * (k p d' : EReal)) (fun p => v p d)
      = softCtx (fun n d => (q n d : EReal)) (fun n d => (k n d : EReal)) v n d := by
  simp only [score_eq, softCtx, ← EReal.coe_mul, ← coe_sum]
  rw [fusedRow_eq_softmaxRow (by decide) (fun p => (∑ d' : Fin 64, q n d' * k p d') / 8)]
  simp only [Ideal.div_coe (show (8 : ℝ) ≠ 0 by norm_num), ← EReal.coe_mul, mul_one_div]

/-- A sum over the 768 lanes is a sum over three groups of 256. -/
theorem sum_groups (f : Fin 768 → EReal) :
    ∑ k : Fin 768, f k = ∑ g : Fin 3, ∑ l : Fin 256, f ⟨256 * g.val + l.val, by omega⟩ := by
  rw [← Fintype.sum_prod_type' (f := fun (g : Fin 3) (l : Fin 256) => f ⟨256 * g.val + l.val, by omega⟩)]
  refine (Fintype.sum_equiv (finProdFinEquiv : Fin 3 × Fin 256 ≃ Fin 768) _ f fun p => congrArg f (Fin.ext ?_)).symm
  simp [finProdFinEquiv, add_comm]

variable (m : (ℓ : Loc Cert.KernelIdeal.nD Cert.KernelIdeal.τ Cert.KernelIdeal.sig) → Buf (Elt Ideal) ℓ)

/-- With finite input, queries' and keys' weights and biases, the kernel's context is the softmax context. -/
theorem fusedCtx_eq (c : Dev Cert.KernelIdeal.nD) (hx : Finite (argX m c)) (hq : Finite (argW m c 0))
    (hbq : Finite (argB m c 0)) (hk : Finite (argW m c 1)) (hbk : Finite (argB m c 1)) (i : Fin 4) (h : Fin 12)
    (n : Fin 2048) (d : Fin 64) :
    fusedCtx m c i h n d = softCtx (argProj m c 0 i h) (argProj m c 1 i h) (argProj m c 2 i h) n d := by
  obtain ⟨q, eq⟩ := headProj_real hx hq hbq i h
  obtain ⟨k, ek⟩ := headProj_real hx hk hbk i h
  have e0 : argProj m c 0 i h = fun n d => (q n d : EReal) := funext fun n => funext fun d => eq n d
  have e1 : argProj m c 1 i h = fun n d => (k n d : EReal) := funext fun n => funext fun d => ek n d
  rw [fusedCtx, e0, e1]
  exact ctx_eq q k _ n d

/-- The kernel's array is the reference's stages on the same arguments. -/
theorem kernelOut_eq (c : Dev Cert.KernelIdeal.nD) (hx : Finite (argX m c)) (hq : Finite (argW m c 0))
    (hbq : Finite (argB m c 0)) (hk : Finite (argW m c 1)) (hbk : Finite (argB m c 1)) :
    kernelOut m c = refOut
      (refWeights (refExps
        (refScores (refProj (argX m c) (argW m c 0) (argB m c 0)) (refProj (argX m c) (argW m c 1) (argB m c 1)))
        (refTop
          (refScores (refProj (argX m c) (argW m c 0) (argB m c 0)) (refProj (argX m c) (argW m c 1) (argB m c 1))))))
      (refProj (argX m c) (argW m c 2) (argB m c 2)) (argO m c) (argC m c) := by
  funext y
  obtain ⟨i, n, o, rfl⟩ : ∃ (i : Fin 4) (n : Fin 2048) (o : Fin 768), y = ix3 i n o := ⟨y 0, y 1, y 2, eq_ix3 y⟩
  rw [refOut_apply]
  simp only [stages_row]
  simp only [refProj_apply]
  rw [sum_groups, add_comm]
  refine congrArg (argC m c (ix1 o) + ·) (Finset.sum_congr rfl fun g _ => Finset.sum_congr rfl fun l _ => ?_)
  show fusedCtx m c i (headOf g l) n (laneOf l) * argO m c (ix2 ⟨256 * g.val + l.val, by omega⟩ o) = _
  rw [fusedCtx_eq m c hx hq hbq hk hbk]
  have eh : (⟨(256 * g.val + l.val) / 64, by omega⟩ : Fin 12) = headOf g l :=
    Fin.ext (by simp only [headOf]; omega)
  have el : (⟨(256 * g.val + l.val) % 64, by omega⟩ : Fin 64) = laneOf l :=
    Fin.ext (by simp only [laneOf]; omega)
  rw [eh, el]
  rfl

end Cert.Attn

end
-- ==== Proof.Claims.lean ====
/-
  The claims: the runs of the three programs, the named constant, and the equality of the results under finite scores.
-/
module

public import proofs.«01_k».proof.Defs
public import proofs.«01_k».proof.Proof.Equation
public import proofs.«01_k».proof.Proof.Gen.Kernel.Frame
public import proofs.«01_k».proof.Proof.Gen.KernelIdeal.Frame
public import Idealize.ShloMosaic.Lib.Quiescent

@[expose] public section

set_option maxRecDepth 16384

noncomputable section

namespace Cert.Attn

open Idealize.ShloMosaic Idealize.ShloMosaic.TcCoe Idealize.SL.Sem

/-! ## The precondition -/

/-- The side conditions of the precondition's operations. -/
instance pre_facts : Cert.Pre_scores_finite.Facts where
  bcast_S_S4x2048x768 := by decide
  bcast_S_S12x768x64 := by decide
  bcast_S_S12x64 := by decide

/-- An array whose absolute values are below infinity holds real numbers. -/
theorem finite_of_abs_lt {s : Shape} (x : FVec Ideal s .f32)
    (hb : Cert.Pre_scores_finite.S_.BroadcastsInDim s (![] : Fin 0 → Fin s.rank))
    (h : cmpf .olt (Host.absf x) (broadcastInDim s ![] hb (constant Cert.Pre_scores_finite.S_ .f32 0x7F800000#32))
      = fun _ => 1#1) : Finite x := by
  intro i
  have hi := congrFun h i
  pointwise at hi
  rw [ofBits_posInf] at hi
  have hlt : max (x i) (-(x i)) < (⊤ : EReal) := by
    by_contra hn
    exact absurd (hi.symm.trans (congrArg BitVec.ofBool (decide_eq_false hn))) (by decide)
  obtain ⟨ht, hn⟩ := max_lt_iff.mp hlt
  refine ⟨(x i).toReal, (EReal.coe_toReal ht.ne fun hb => ?_).symm⟩
  rw [hb, EReal.neg_bot] at hn
  exact lt_irrefl _ hn

/-- The precondition makes the input and the queries' and keys' weights and biases finite. -/
theorem finite_args (m : (ℓ : Loc Cert.KernelIdeal.nD Cert.KernelIdeal.τ Cert.KernelIdeal.sig) → Buf (Elt Ideal) ℓ)
    (h : Cert.Pre_KernelIdeal_scores_finite m) (c : Dev Cert.KernelIdeal.nD) :
    Finite (argX m c) ∧ Finite (argW m c 0) ∧ Finite (argB m c 0) ∧ Finite (argW m c 1) ∧ Finite (argB m c 1) := by
  obtain ⟨h0, h1, h2, h3, h4⟩ := h c
  exact ⟨finite_of_abs_lt _ _ h0, finite_of_abs_lt _ _ h1, finite_of_abs_lt _ _ h2, finite_of_abs_lt _ _ h3,
    finite_of_abs_lt _ _ h4⟩

/-! ## The runs -/

/-- The printed kernel runs and leaves its arguments. -/
theorem frame_kernel : Cert.quiescent_Kernel := fun m ρ _ => Cert.Kernel.Gen.frame m ρ

/-- The idealized kernel runs and leaves its arguments. -/
theorem frame_ideal : Cert.quiescent_KernelIdeal := fun m ρ _ => Cert.KernelIdeal.Gen.frame m ρ

/-- The idealized kernel runs and leaves its arguments, under the precondition as without it. -/
theorem frame_ideal_pre : Cert.quiescent_KernelIdeal_pre_scores_finite := fun m ρ _ => Cert.KernelIdeal.Gen.frame m ρ

/-- The reference runs and leaves its arguments. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference runs and leaves its arguments, under the precondition as without it. -/
theorem frame_reference_pre : Cert.quiescent_ReferenceIdeal_pre_scores_finite := fun m ρ _ =>
  frame_reference m ρ trivial

/-! ## The constant and the values -/

/-- The kernel's folded constant stands for the reciprocal of eight times the logarithm of two. -/
theorem scale_named : Cert.preserves_Kernel_KernelIdeal :=
  IdealRules.named_const.statement Cert.KernelIdeal.κ "log2e_scale" .f32 0x3E38AA3B#32 _ rfl

/-- The idealized kernel and the reference leave the same result. -/
theorem same_result : Cert.algebraic_KernelIdeal_ReferenceIdeal_pre_scores_finite := by
  intro m ρ m' ρ' hpre hagree
  refine ⟨fun c => kernelOut m c, ?_, ?_⟩
  · exact (θ_run Cert.KernelIdeal.defs _ _).mono (fun _ h c => ⟨(h c).1.trans (array_eq m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    obtain ⟨hx, hq, hbq, hk, hbk⟩ := finite_args m hpre c
    exact (res_stages m' c _ _ _ _ _ _ _ _ _ a0 a1 a2 a3 a4 a5 a6 a7 a8).trans
      (kernelOut_eq m c hx hq hbq hk hbk).symm

end Cert.Attn

end
-- ==== Proof.lean ====
/- The proof of this directory's claims (Defs.lean): the runs of the printed kernel, of its idealization and of the
   reference; the named constant; and the equality of the idealized kernel's and the reference's results. Each is a theorem
   of Proof/Claims.lean; this file puts them together. -/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal

@[expose] public section

noncomputable section

namespace Cert.Proof

open Cert.Attn

/-- Everything this directory claims. -/
theorem claim : Cert.Claim :=
  ⟨Cert.Kernel.Gen.facts, Cert.KernelIdeal.Gen.facts, Cert.ReferenceIdeal.Gen.facts, pre_facts,
    frame_kernel, frame_ideal, frame_ideal_pre, frame_reference, frame_reference_pre, scale_named, same_result⟩

end Cert.Proof

end
